-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x18x48x48x48 : Shape := ⟨5, ![16, 18, 48, 48, 48]⟩
abbrev S18x16x48x48x48 : Shape := ⟨5, ![18, 16, 48, 48, 48]⟩
abbrev S18x16x110592 : Shape := ⟨3, ![18, 16, 110592]⟩
abbrev S6x16x331776 : Shape := ⟨3, ![6, 16, 331776]⟩
abbrev S1x16x110592 : Shape := ⟨3, ![1, 16, 110592]⟩
abbrev S16x110592 : Shape := ⟨2, ![16, 110592]⟩
abbrev S16x331776x6 : Shape := ⟨3, ![16, 331776, 6]⟩

abbrev nBuf : Space → Nat
  | .hbm => 5
  | .vmem => 4
  | .smem => 0
  | _ => 0

abbrev bufTy : (tb : Table) → Fin (tcTables nBuf tb) → BufTy
  | .hbm, ⟨0, _⟩ => ⟨S16x18x48x48x48, .f32⟩
  | .hbm, ⟨1, _⟩ => ⟨S18x16x48x48x48, .f32⟩
  | .hbm, ⟨2, _⟩ => ⟨S18x16x110592, .f32⟩
  | .hbm, ⟨3, _⟩ => ⟨S6x16x331776, .f32⟩
  | .hbm, ⟨4, _⟩ => ⟨S16x331776x6, .f32⟩
  | .local _ .vmem, ⟨0, _⟩ => ⟨S1x16x110592, .f32⟩
  | .local _ .vmem, ⟨1, _⟩ => ⟨S1x16x110592, .f32⟩
  | .local _ .vmem, ⟨2, _⟩ => ⟨S1x16x110592, .f32⟩
  | .local _ .vmem, ⟨3, _⟩ => ⟨S1x16x110592, .f32⟩
  | _, _ => ⟨S16x18x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![6, 3, 1], ![false, false, false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_3 : BitVec 32 := 0#32
  let v11 : BitVec 1 := Scalar.cmpi .ne v10 c0_i32_3
  v11

def k0_cond3 (i : grid0.Coords) : BitVec 1 :=
  let arg0 : BitVec 32 := BitVec.ofNat 32 (i 0).val
  let c2_i32 : BitVec 32 := 2#32
  let v12 : BitVec 1 := Scalar.cmpi .eq arg0 c2_i32
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_5 : BitVec 32 := 0#32
  let v17 : BitVec 1 := Scalar.cmpi .ne v16 c0_i32_5
  v17

def k0_cond5 (i : grid0.Coords) : BitVec 1 :=
  let arg0 : BitVec 32 := BitVec.ofNat 32 (i 0).val
  let c4_i32 : BitVec 32 := 4#32
  let v18 : BitVec 1 := Scalar.cmpi .sge arg0 c4_i32
  let v19 : BitVec 32 := Scalar.extui v18
  let c0_i32_6 : BitVec 32 := 0#32
  let v20 : BitVec 1 := Scalar.cmpi .ne v19 c0_i32_6
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg1 c6_i32
  let v1 : BitVec 32 := Scalar.addi v0 arg0
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x16x110592 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x110592 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S16x18x48x48x48 : Shape := ⟨5, ![16, 18, 48, 48, 48]⟩
abbrev S3 : Shape := ⟨1, ![3]⟩
abbrev S16x3x6x48x48x48 : Shape := ⟨6, ![16, 3, 6, 48, 48, 48]⟩
abbrev S16x3x48x48x48x6 : Shape := ⟨6, ![16, 3, 48, 48, 48, 6]⟩
abbrev S16x3x48x48x48x1 : Shape := ⟨6, ![16, 3, 48, 48, 48, 1]⟩
abbrev S16x3x48x48x48 : Shape := ⟨5, ![16, 3, 48, 48, 48]⟩
abbrev S_ : Shape := ⟨0, ![]⟩
abbrev S48 : Shape := ⟨1, ![48]⟩
abbrev S48x1 : Shape := ⟨2, ![48, 1]⟩
abbrev S48x1x1 : Shape := ⟨3, ![48, 1, 1]⟩
abbrev S1x3x1x1x1 : Shape := ⟨5, ![1, 3, 1, 1, 1]⟩
abbrev S1x1x1x1x48 : Shape := ⟨5, ![1, 1, 1, 1, 48]⟩
abbrev S1x1x1x48x1 : Shape := ⟨5, ![1, 1, 1, 48, 1]⟩
abbrev S1x1x48x1x1 : Shape := ⟨5, ![1, 1, 48, 1, 1]⟩
abbrev S16x3x48x48x48x4 : Shape := ⟨6, ![16, 3, 48, 48, 48, 4]⟩
abbrev S16x331776x4 : Shape := ⟨3, ![16, 331776, 4]⟩
abbrev S16x331776x1 : Shape := ⟨3, ![16, 331776, 1]⟩
abbrev S16x331776x6 : Shape := ⟨3, ![16, 331776, 6]⟩

abbrev nBuf : Space → Nat
  | .hbm => 97
  | .vmem => 0
  | .smem => 0
  | _ => 0

abbrev bufTy : (tb : Table) → Fin (tcTables nBuf tb) → BufTy
  | .hbm, ⟨0, _⟩ => ⟨S16x18x48x48x48, .f32⟩
  | .hbm, ⟨1, _⟩ => ⟨S3, .f32⟩
  | .hbm, ⟨2, _⟩ => ⟨S16x3x6x48x48x48, .f32⟩
  | .hbm, ⟨3, _⟩ => ⟨S16x3x48x48x48x6, .f32⟩
  | .hbm, ⟨4, _⟩ => ⟨S16x3x48x48x48x1, .f32⟩
  | .hbm, ⟨5, _⟩ => ⟨S16x3x48x48x48, .f32⟩
  | .hbm, ⟨6, _⟩ => ⟨S16x3x48x48x48, .f32⟩
  | .hbm, ⟨7, _⟩ => ⟨S16x3x48x48x48, .f32⟩
  | .hbm, ⟨8, _⟩ => ⟨S_, .f32⟩
  | .hbm, ⟨9, _⟩ => ⟨S16x3x48x48x48, .f32⟩
  | .hbm, ⟨10, _⟩ => ⟨S16x3x48x48x48, .f32⟩
  | .hbm, ⟨11, _⟩ => ⟨S_, .f32⟩
  | .hbm, ⟨12, _⟩ => ⟨S16x3x48x48x48, .f32⟩
  | .hbm, ⟨13, _⟩ => ⟨S16x3x48x48x48, .f32⟩
  | .hbm, ⟨14, _⟩ => ⟨S16x3x48x48x48x1, .f32⟩
  | .hbm, ⟨15, _⟩ => ⟨S16x3x48x48x48, .f32⟩
  | .hbm, ⟨16, _⟩ => ⟨S16x3x48x48x48, .f32⟩
  | .hbm, ⟨17, _⟩ => ⟨S16x3x48x48x48, .f32⟩
  | .hbm, ⟨18, _⟩ => ⟨S_, .f32⟩
  | .hbm, ⟨19, _⟩ => ⟨S16x3x48x48x48, .f32⟩
  | .hbm, ⟨20, _⟩ => ⟨S16x3x48x48x48, .f32⟩
  | .hbm, ⟨21, _⟩ => ⟨S_, .f32⟩
  | .hbm, ⟨22, _⟩ => ⟨S16x3x48x48x48, .f32⟩
  | .hbm, ⟨23, _⟩ => ⟨S16x3x48x48x48, .f32⟩
  | .hbm, ⟨24, _⟩ => ⟨S16x3x48x48x48x1, .f32⟩
  | .hbm, ⟨25, _⟩ => ⟨S16x3x48x48x48, .f32⟩
  | .hbm, ⟨26, _⟩ => ⟨S16x3x48x48x48, .f32⟩
  | .hbm, ⟨27, _⟩ => ⟨S16x3x48x48x48, .f32⟩
  | .hbm, ⟨28, _⟩ => ⟨S_, .f32⟩
  | .hbm, ⟨29, _⟩ => ⟨S16x3x48x48x48, .f32⟩
  | .hbm, ⟨30, _⟩ => ⟨S16x3x48x48x48, .f32⟩
  | .hbm, ⟨31, _⟩ => ⟨S_, .f32⟩
  | .hbm, ⟨32, _⟩ => ⟨S16x3x48x48x48, .f32⟩
  | .hbm, ⟨33, _⟩ => ⟨S16x3x48x48x48, .f32⟩
  | .hbm, ⟨34, _⟩ => ⟨S16x3x48x48x48x1, .f32⟩
  | .hbm, ⟨35, _⟩ => ⟨S16x3x48x48x48, .f32⟩
  | .hbm, ⟨36, _⟩ => ⟨S16x3x48x48x48x1, .f32⟩
  | .hbm, ⟨37, _⟩ => ⟨S16x3x48x48x48, .f32⟩
  | .hbm, ⟨38, _⟩ => ⟨S16x3x48x48x48, .f32⟩
  | .hbm, ⟨39, _⟩ => ⟨S16x3x48x48x48, .f32⟩
  | .hbm, ⟨40, _⟩ => ⟨S_, .f32⟩
  | .hbm, ⟨41, _⟩ => ⟨S16x3x48x48x48, .f32⟩
  | .hbm, ⟨42, _⟩ => ⟨S16x3x48x48x48, .f32⟩
  | .hbm, ⟨43, _⟩ => ⟨S_, .f32⟩
  | .hbm, ⟨44, _⟩ => ⟨S16x3x48x48x48, .f32⟩
  | .hbm, ⟨45, _⟩ => ⟨S16x3x48x48x48, .f32⟩
  | .hbm, ⟨46, _⟩ => ⟨S16x3x48x48x48x1, .f32⟩
  | .hbm, ⟨47, _⟩ => ⟨S16x3x48x48x48x1, .f32⟩
  | .hbm, ⟨48, _⟩ => ⟨S16x3x48x48x48x1, .f32⟩
  | .hbm, ⟨49, _⟩ => ⟨S_, .f32⟩
  | .hbm, ⟨50, _⟩ => ⟨S16x3x48x48x48x1, .f32⟩
  | .hbm, ⟨51, _⟩ => ⟨S16x3x48x48x48x1, .f32⟩
  | .hbm, ⟨52, _⟩ => ⟨S_, .f32⟩
  | .hbm, ⟨53, _⟩ => ⟨S16x3x48x48x48x1, .f32⟩
  | .hbm, ⟨54, _⟩ => ⟨S16x3x48x48x48x1, .f32⟩
  | .hbm, ⟨55, _⟩ => ⟨S48, .f32⟩
  | .hbm, ⟨56, _⟩ => ⟨S48, .f32⟩
  | .hbm, ⟨57, _⟩ => ⟨S48x1, .f32⟩
  | .hbm, ⟨58, _⟩ => ⟨S48, .f32⟩
  | .hbm, ⟨59, _⟩ => ⟨S48x1x1, .f32⟩
  | .hbm, ⟨60, _⟩ => ⟨S_, .f32⟩
  | .hbm, ⟨61, _⟩ => ⟨S3, .f32⟩
  | .hbm, ⟨62, _⟩ => ⟨S3, .f32⟩
  | .hbm, ⟨63, _⟩ => ⟨S1x3x1x1x1, .f32⟩
  | .hbm, ⟨64, _⟩ => ⟨S1x1x1x1x48, .f32⟩
  | .hbm, ⟨65, _⟩ => ⟨S16x3x48x48x48, .f32⟩
  | .hbm, ⟨66, _⟩ => ⟨S16x3x48x48x48, .f32⟩
  | .hbm, ⟨67, _⟩ => ⟨S_, .f32⟩
  | .hbm, ⟨68, _⟩ => ⟨S16x3x48x48x48, .f32⟩
  | .hbm, ⟨69, _⟩ => ⟨S16x3x48x48x48, .f32⟩
  | .hbm, ⟨70, _⟩ => ⟨S1x1x1x48x1, .f32⟩
  | .hbm, ⟨71, _⟩ => ⟨S16x3x48x48x48, .f32⟩
  | .hbm, ⟨72, _⟩ => ⟨S16x3x48x48x48, .f32⟩
  | .hbm, ⟨73, _⟩ => ⟨S_, .f32⟩
  | .hbm, ⟨74, _⟩ => ⟨S16x3x48x48x48, .f32⟩
  | .hbm, ⟨75, _⟩ => ⟨S16x3x48x48x48, .f32⟩
  | .hbm, ⟨76, _⟩ => ⟨S1x1x48x1x1, .f32⟩
  | .hbm, ⟨77, _⟩ => ⟨S16x3x48x48x48, .f32⟩
  | .hbm, ⟨78, _⟩ => ⟨S16x3x48x48x48, .f32⟩
  | .hbm, ⟨79, _⟩ => ⟨S_, .f32⟩
  | .hbm, ⟨80, _⟩ => ⟨S16x3x48x48x48, .f32⟩
  | .hbm, ⟨81, _⟩ => ⟨S16x3x48x48x48, .f32⟩
  | .hbm, ⟨82, _⟩ => ⟨S16x3x48x48x48, .f32⟩
  | .hbm, ⟨83, _⟩ => ⟨S16x3x48x48x48, .f32⟩
  | .hbm, ⟨84, _⟩ => ⟨S16x3x48x48x48, .f32⟩
  | .hbm, ⟨85, _⟩ => ⟨S_, .f32⟩
  | .hbm, ⟨86, _⟩ => ⟨S16x3x48x48x48, .f32⟩
  | .hbm, ⟨87, _⟩ => ⟨S16x3x48x48x48, .f32⟩
  | .hbm, ⟨88, _⟩ => ⟨S16x3x48x48x48x1, .f32⟩
  | .hbm, ⟨89, _⟩ => ⟨S16x3x48x48x48x1, .f32⟩
  | .hbm, ⟨90, _⟩ => ⟨S16x3x48x48x48x1, .f32⟩
  | .hbm, ⟨91, _⟩ => ⟨S16x3x48x48x48x1, .f32⟩
  | .hbm, ⟨92, _⟩ => ⟨S16x3x48x48x48x4, .f32⟩
  | .hbm, ⟨93, _⟩ => ⟨S16x331776x4, .f32⟩
  | .hbm, ⟨94, _⟩ => ⟨S16x331776x1, .f32⟩
  | .hbm, ⟨95, _⟩ => ⟨S16x331776x1, .f32⟩
  | .hbm, ⟨96, _⟩ => ⟨S16x331776x6, .f32⟩
  | _, _ => ⟨S16x18x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_8 : Ref sig .tc := ⟨.hbm, 49, rfl⟩
abbrev main_v39 : Ref sig .tc := ⟨.hbm, 50, rfl⟩
abbrev main_v40 : Ref sig .tc := ⟨.hbm, 51, rfl⟩
abbrev main_cst_9 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_11 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_13 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_14 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Proof.Words.lean ====
/-
  The integer words by which the kernel finds a cell's coordinates from its flat position. The flat position `n` of a
  cell of the 48 × 48 × 48 grid is `(z * 48 + y) * 48 + x`, and the kernel computes `x`, `y` and `z` with the signed
  quotient and remainder of the machine, corrected so that they round down for a negative number too. A position is
  never negative, so each correction is idle; the theorems here say so and give the word that remains.
-/
module

public import Idealize.ShloMosaic.Lib.Routing.Words
public import Idealize.ShloMosaic.Lib.WordCmp

@[expose] public section

namespace Cert.Decode

open Idealize.ShloMosaic Idealize.ShloMosaic.Routing

/-- A word that holds a natural below `2 ^ 31` is not below zero in the signed order. -/
theorem slt_zero_word {a : Nat} (ha : a < 2 ^ 31) : IntOp.cmpi .slt (BitVec.ofNat 32 a) 0#32 = 0#1 :=
  (WordCmp.cmpi_slt_ofNat_eq_zero_iff (w := 32) ha (by decide)).mpr (Nat.not_lt_zero a)

/-- The remainder corrected towards the divisor's sign, of the words of a natural `a` and a positive natural `b`, both
    below `2 ^ 31`: the correction is not taken, whatever its word `v` is, and the result is the word of `a % b`. -/
theorem floorMod_word {a b : Nat} (ha : a < 2 ^ 31) (h0 : 0 < b) (hb : b < 2 ^ 31) (s q : BitVec 1) (hs : s = 0#1)
    (v : BitVec 32) :
    Scalar.select (IntOp.andi (IntOp.xori (IntOp.cmpi .slt (IntOp.remsi .vector (BitVec.ofNat 32 a) (BitVec.ofNat 32 b)) 0#32) s) q)
      v (IntOp.remsi .vector (BitVec.ofNat 32 a) (BitVec.ofNat 32 b)) = BitVec.ofNat 32 (a % b) := by
  have hlt : a % b < 2 ^ 31 := (Nat.mod_lt a h0).trans hb
  rw [remsi_word .vector ha h0 hb, slt_zero_word hlt, hs]
  have hc : IntOp.andi (IntOp.xori 0#1 0#1) q = 0#1 := by
    rcases BitVec.eq_zero_or_eq_one q with rfl | rfl <;> rfl
  rw [hc]
  rfl

/-- The quotient corrected so that it rounds down, of the words of a natural `a` and a positive natural `b`, both below
    `2 ^ 31`: the two signs agree or the remainder is zero, so the correction is not taken, and the result is the word
    of `a / b`. -/
theorem floorDiv_word {a b : Nat} (ha : a < 2 ^ 31) (h0 : 0 < b) (hb : b < 2 ^ 31) (s v : BitVec 32) (hs : s = 1#32) :
    Scalar.select (IntOp.andi
        (IntOp.cmpi .ne (IntOp.subi ((IntOp.cmpi .sgt (BitVec.ofNat 32 a) 0#32).setWidth 32)
          ((IntOp.cmpi .slt (BitVec.ofNat 32 a) 0#32).setWidth 32)) s)
        (IntOp.cmpi .ne (IntOp.remsi .vector (BitVec.ofNat 32 a) (BitVec.ofNat 32 b)) 0#32))
      v (IntOp.divsi .vector (BitVec.ofNat 32 a) (BitVec.ofNat 32 b)) = BitVec.ofNat 32 (a / b) := by
  rw [divsi_word .vector ha h0 hb, remsi_word .vector ha h0 hb, slt_zero_word ha, hs]
  rcases Nat.eq_zero_or_pos a with rfl | hpos
  · rw [Nat.zero_mod]; rfl
  · rw [(WordCmp.cmpi_sgt_ofNat_eq_one_iff (w := 32) ha (by decide)).mpr hpos]
    have hc : ∀ q : BitVec 1, IntOp.andi (IntOp.cmpi .ne (IntOp.subi ((1#1).setWidth 32) ((0#1).setWidth 32)) 1#32) q = 0#1 := by
      decide
    rw [hc]
    rfl

/-- The kernel's flat position: the first position of the chunk, which is chunk zero of one, plus the position in it. -/
theorem flat_word (n : Nat) :
    IntOp.addi (Scalar.muli 0#32 110592#32) (BitVec.ofNat 32 n) = BitVec.ofNat 32 n := by
  have h : Scalar.muli 0#32 110592#32 = 0#32 := by decide
  rw [h]
  exact BitVec.zero_add _

end Cert.Decode
-- ==== Proof.Scalars.lean ====
/-
  What one output number is, as a function of one input number. A cell carries six attributes: the three centre
  coordinates, the box length, the confidence and the class score. The kernel's and the reference's results are both
  shown equal to `attr`, so this file holds the specification that the two meet in, and the scalar identities on the
  extended reals that the meeting needs.
-/
module

public import proofs.«01_k».proof.Proof.Words
public import Idealize.ShloMosaic.Lib.IdealHost
public import Idealize.ShloMosaic.Lib.Pointwise

@[expose] public section

noncomputable section

namespace Cert.Decode

open Idealize.ShloMosaic

/-- The box length of anchor `a`: 4, 8 and 16 for the three anchors. -/
def anchor (a : ℕ) : EReal := if a = 0 then 4 else if a = 1 then 8 else 16

/-- Attribute `j` of the cell at flat position `n` under anchor `a`, from the network's number `v` for it. The
    attributes 0, 1 and 2 are the centre along x, y and z: the logistic of `v`, moved by the cell's own coordinate and
    scaled by the stride 2. Attribute 3 is the box length: the exponential of `v` times the anchor's length. The
    attributes 4 and 5, confidence and class score, are the logistic of `v`. -/
def attr (j a n : ℕ) (v : EReal) : EReal :=
  if j = 0 then (Ideal.logistic v + ((n % 48 : ℕ) : ℝ)) * 2
  else if j = 1 then (Ideal.logistic v + ((n / 48 % 48 : ℕ) : ℝ)) * 2
  else if j = 2 then (Ideal.logistic v + ((n / 2304 : ℕ) : ℝ)) * 2
  else if j = 3 then Ideal.exp v * anchor a
  else Ideal.logistic v

/-- The word of a natural below `2 ^ 31`, converted to a float, is that natural. -/
theorem sitofp_word {k : ℕ} (hk : k < 2 ^ 31) :
    (FloatOps.sitofp (F := Ideal) .f32 (BitVec.ofNat 32 k) : EReal) = ((k : ℝ) : EReal) := by
  show ((((BitVec.ofNat 32 k).toInt : ℤ) : ℝ) : EReal) = ((k : ℝ) : EReal)
  rw [BitVec.toInt_ofNat', Int.bmod_eq_of_le (by omega) (by omega)]
  rw [Int.cast_natCast]

/-- The pattern of 2.0 is the number 2. -/
theorem lit_two : Ideal.ofBits .f32 0x40000000#32 = (2 : EReal) := by
  have h : Ideal.ofBits .f32 0x40000000#32 = ((2 : ℝ) : EReal) := by
    simp [Ideal.ofBits, Ideal.ieee, -EReal.coe_mul]; norm_num
  exact h

/-- The pattern of 4.0 is the number 4. -/
theorem lit_four : Ideal.ofBits .f32 0x40800000#32 = (4 : EReal) := by
  have h : Ideal.ofBits .f32 0x40800000#32 = ((4 : ℝ) : EReal) := by
    simp [Ideal.ofBits, Ideal.ieee, -EReal.coe_mul]; norm_num
  exact h

/-- The pattern of 8.0 is the number 8. -/
theorem lit_eight : Ideal.ofBits .f32 0x41000000#32 = (8 : EReal) := by
  have h : Ideal.ofBits .f32 0x41000000#32 = ((8 : ℝ) : EReal) := by
    simp [Ideal.ofBits, Ideal.ieee, -EReal.coe_mul]; norm_num
  exact h

/-- The pattern of 16.0 is the number 16. -/
theorem lit_sixteen : Ideal.ofBits .f32 0x41800000#32 = (16 : EReal) := by
  have h : Ideal.ofBits .f32 0x41800000#32 = ((16 : ℝ) : EReal) := by
    simp [Ideal.ofBits, Ideal.ieee, -EReal.coe_mul]; norm_num
  exact h

/-- Dividing an anchor's length by the stride 2 before the product and multiplying by 2 after it changes nothing, for
    any extended real `e`. The kernel folds the two steps into the one factor `anchor a`. -/
theorem mul_half_mul_two (e : EReal) (a : ℕ) : e * Ideal.div (anchor a) 2 * 2 = e * anchor a := by
  have h2 : ∀ s : EReal, Ideal.div s 2 = s * ((1 / 2 : ℝ) : EReal) := fun s =>
    Ideal.div_coe (y := 2) (by norm_num) s
  have hc : ((1 / 2 : ℝ) : EReal) * 2 = 1 := by
    show ((1 / 2 : ℝ) : EReal) * ((2 : ℝ) : EReal) = ((1 : ℝ) : EReal)
    rw [← EReal.coe_mul]; norm_num
  rw [h2, mul_assoc, mul_assoc, hc, mul_one]

end Cert.Decode
-- ==== Proof.Blocks.lean ====
/-
  What the kernel's body stores at one grid point, read at an index. The body has five branches, one for each of the
  attributes 0 to 3 and one for the attributes 4 and 5. Each branch stores one block, and at batch entry `b` and flat
  position `n` the stored number is `attr` of the number the input block holds there.
-/
module

public import proofs.«01_k».proof.Proof.Scalars
public import proofs.«01_k».proof.Proof.Gen.KernelIdeal.Skeleton

@[expose] public section

set_option maxRecDepth 16384

noncomputable section

namespace Cert.Decode

open Idealize.ShloMosaic Idealize.SL.Sem Cert.KernelIdeal Cert.KernelIdeal.Gen

variable (i : grid0.Coords) (x : Vec Ideal S1x16x110592 .f32) (b : Fin 16) (n : Fin 110592)

/-- The branch of attribute 0 stores the decoded centre along x. -/
theorem block_x (a : ℕ) : k0_pay3 i x (ix3 0 b n) = attr 0 a n (x (ix3 0 b n)) := by
  have hn : (n : ℕ) < 110592 := n.isLt
  pointwise [k0_pay3, k0_pay2, k0_pay1]
  have hd : Scalar.select (Scalar.cmpi .eq 48#32 0#32) 1#32 48#32 = BitVec.ofNat 32 48 := by decide
  rw [hd, flat_word, floorMod_word (by omega) (by decide) (by decide) _ _ (by decide), lit_two]
  rw [sitofp_word (by omega)]
  rfl

/-- The branch of attribute 1 stores the decoded centre along y. -/
theorem block_y (a : ℕ) :
    k0_pay4 (k0_pay8 (k0_pay1 x) (k0_pay2 i)) (ix3 0 b n) = attr 1 a n (x (ix3 0 b n)) := by
  have hn : (n : ℕ) < 110592 := n.isLt
  pointwise [k0_pay4, k0_pay8, k0_pay2, k0_pay1]
  have hd : Scalar.select (Scalar.cmpi .eq 48#32 0#32) 1#32 48#32 = BitVec.ofNat 32 48 := by decide
  rw [hd, flat_word, floorDiv_word (b := 48) (by omega) (by decide) (by decide) _ _ (by decide),
    floorMod_word (by omega) (by decide) (by decide) _ _ (by decide), lit_two, sitofp_word (by omega)]
  rfl

/-- The branch of attribute 2 stores the decoded centre along z. -/
theorem block_z (a : ℕ) : k0_pay5 i x (ix3 0 b n) = attr 2 a n (x (ix3 0 b n)) := by
  have hn : (n : ℕ) < 110592 := n.isLt
  pointwise [k0_pay5, k0_pay2, k0_pay1]
  rw [flat_word, floorDiv_word (b := 2304) (by omega) (by decide) (by decide) _ _ (by decide), lit_two,
    sitofp_word (by omega)]
  rfl

/-- The branch of attribute 3 stores the box length, the anchor being the grid's middle coordinate. -/
theorem block_len : k0_pay6 i x (ix3 0 b n) = attr 3 (i 1) n (x (ix3 0 b n)) := by
  pointwise [k0_pay6, k0_pay1]
  have hi : (i 1 : ℕ) < 3 := (i 1).isLt
  rw [lit_four, lit_eight, lit_sixteen]
  show _ = Ideal.exp _ * anchor (i 1 : ℕ)
  generalize (i 1 : ℕ) = a at hi
  have : a = 0 ∨ a = 1 ∨ a = 2 := by omega
  rcases this with rfl | rfl | rfl <;> rfl

/-- The branch of the attributes 4 and 5 stores the logistic. -/
theorem block_score (j a : ℕ) (hj : 4 ≤ j) : k0_pay7 x (ix3 0 b n) = attr j a n (x (ix3 0 b n)) := by
  pointwise [k0_pay7, k0_pay1]
  unfold attr
  rw [if_neg (by omega), if_neg (by omega), if_neg (by omega), if_neg (by omega)]

end Cert.Decode
-- ==== Proof.KernelArray.lean ====
/-
  The array that the kernel's grid leaves, whole. The grid has 18 points, one for each attribute `j` and anchor `a`. The
  point of `j` and `a` reads plane `6 * a + j` of the input and writes stretch `a` of plane `j` of the output. The 18
  output blocks cover the output, so the output is one function of the input, here `planes`.
-/
module

public import proofs.«01_k».proof.Proof.Blocks
public import proofs.«01_k».proof.Proof.Gen.KernelIdeal.Frame
public import Idealize.ShloMosaic.Lib.Pipeline.ValueKit

@[expose] public section

set_option maxRecDepth 16384

noncomputable section

namespace Cert.Decode

open Idealize.ShloMosaic Idealize.SL.Sem Idealize.ShloMosaic.TcCoe Cert.KernelIdeal Cert.KernelIdeal.Gen

/-- The output planes of the input planes `x`: plane `j` at batch entry `b` and position `q` is the attribute `j` of the
    cell `q % 110592` under the anchor `q / 110592`, read from plane `6 * (q / 110592) + j`. -/
def planes (x : S18x16x110592.Idx → EReal) (y : S6x16x331776.Idx) : EReal :=
  attr (y 0) ((y 2 : ℕ) / 110592) ((y 2 : ℕ) % 110592)
    (x (ix3 ⟨6 * ((y 2 : ℕ) / 110592) + (y 0 : ℕ), by
        have h0 : (y 0 : ℕ) < 6 := (y 0).isLt
        have h2 : (y 2 : ℕ) < 331776 := (y 2).isLt
        omega⟩
      (y 1) ⟨(y 2 : ℕ) % 110592, Nat.mod_lt _ (by decide)⟩))

/-- `planes` at an index whose coordinates are plane `j`, batch entry `b` and position `n` of stretch `a`. -/
theorem planes_at (x : S18x16x110592.Idx → EReal) (y : S6x16x331776.Idx) (j a : ℕ) (n : Fin 110592) {b : Fin 16}
    (hp : 6 * a + j < 18) (h0 : (y 0 : ℕ) = j) (h1 : y 1 = b) (h2 : (y 2 : ℕ) = a * 110592 + n) (v : EReal)
    (hv : x (ix3 ⟨6 * a + j, hp⟩ b n) = v) : planes x y = attr j a n v := by
  have hn : (n : ℕ) < 110592 := n.isLt
  have hq : (y 2 : ℕ) / 110592 = a := by omega
  have hr : (y 2 : ℕ) % 110592 = n := by omega
  have hi : ∀ h h', (ix3 ⟨6 * ((y 2 : ℕ) / 110592) + (y 0 : ℕ), h⟩ (y 1) ⟨(y 2 : ℕ) % 110592, h'⟩ : S18x16x110592.Idx)
      = ix3 ⟨6 * a + j, hp⟩ b n := fun h h' => by
    rw [h1]
    congr 1
    · apply Fin.ext; show 6 * ((y 2 : ℕ) / 110592) + (y 0 : ℕ) = 6 * a + j; rw [hq, h0]
    · exact Fin.ext hr
  unfold planes
  rw [hi, hv, hq, hr, h0]

variable (m : (ℓ : Loc nD τ sig) → Buf (Elt Ideal) ℓ)

/-- The blocks of grid point `t`: the input's plane is `6 * a + j` and the output's block is stretch `a` of plane `j`,
    with `j = t / 3` and `a = t % 3`. -/
theorem index_facts : ∀ t : Fin cfg0.N,
    win0_0.index t (0 : Fin 3) = 6 * (t.val % 3) + t.val / 3 ∧ win0_0.index t (1 : Fin 3) = 0 ∧ win0_0.index t (2 : Fin 3) = 0
    ∧ win0_1.index t (0 : Fin 3) = t.val / 3 ∧ win0_1.index t (1 : Fin 3) = 0 ∧ win0_1.index t (2 : Fin 3) = t.val % 3 :=
  (by decide +kernel : ∀ t : Fin grid0.N, _)

/-- The middle grid coordinate of point `t` is its anchor. -/
theorem anchor_coord (t : Fin cfg0.N) : (grid0.coords t 1).val = t.val % 3 := by
  have e1 : (grid0.coords t 1).val = t.val / 1 % 3 := Pipeline.Grid.coords_val t 1 (by decide) rfl
  rw [e1, Nat.div_one]

/-- What the output's block of point `t` holds, at `b` and `n`, in terms of the point's input block. -/
theorem point_block (c : Dev nD) (t : Fin cfg0.N) (b : Fin 16) (n : Fin 110592) :
    outsAt0 m c t.val t.isLt (ix3 0 b n) = attr (t.val / 3) (t.val % 3) n (iblk m c 0 t (ix3 0 b n)) := by
  have hN : t.val < 18 := lt_of_lt_of_eq t.isLt N_0
  have cases : t.val < 3 ∨ t.val / 3 % 6 = 1 ∨ t.val / 3 % 6 = 2 ∨ t.val / 3 % 6 = 3 ∨ 12 ≤ t.val := by omega
  rcases cases with h | h | h | h | h
  · rw [outsAt0_A m c t h (by omega) (by omega) (by omega) (by omega)]
    frame_out
    rw [show t.val / 3 = 0 by omega]
    exact block_x _ _ b n _
  · rw [outsAt0_B m c t (by omega) h (by omega) (by omega) (by omega)]
    frame_out
    rw [show t.val / 3 = 1 by omega]
    exact block_y _ _ b n _
  · rw [outsAt0_C m c t (by omega) (by omega) h (by omega) (by omega)]
    frame_out
    rw [show t.val / 3 = 2 by omega]
    exact block_z _ _ b n _
  · rw [outsAt0_D m c t (by omega) (by omega) (by omega) h (by omega)]
    frame_out
    rw [show t.val / 3 = 3 by omega, ← anchor_coord t]
    exact block_len _ _ b n
  · rw [outsAt0_E m c t (by omega) (by omega) (by omega) (by omega) h]
    frame_out
    exact block_score _ b n _ _ (by omega)

/-- The input block of point `t` is plane `6 * a + j` of the input array. -/
theorem input_block (c : Dev nD) (t : Fin cfg0.N) (b : Fin 16) (n : Fin 110592) (p : Fin 18)
    (hp : (p : ℕ) = 6 * (t.val % 3) + t.val / 3) :
    iblk m c 0 t (ix3 0 b n) = V m c main_v1 (ix3 p b n) := by
  obtain ⟨f0, f1, f2, -⟩ := index_facts t
  unfold iblk
  show V m c main_v1 (((cfg0.win 0).blk t).view.emb (ix3 0 b n)) = V m c main_v1 (ix3 p b n)
  congr 1
  funext a
  apply Fin.ext
  fin_cases a
  · show (((cfg0.win 0).blk t).view.emb (ix3 0 b n) (0 : Fin 3) : ℕ) = p
    blk_simp; rw [f0, hp]; rfl
  · show (((cfg0.win 0).blk t).view.emb (ix3 0 b n) (1 : Fin 3) : ℕ) = b
    blk_simp; rw [f1]; omega
  · show (((cfg0.win 0).blk t).view.emb (ix3 0 b n) (2 : Fin 3) : ℕ) = n
    blk_simp; rw [f2]; omega

/-- After the run the kernel's output array is `planes` of its input array. -/
theorem output_array (c : Dev nD) :
    (dats m 0 c).arrAt 1 cfg0.N
      = (planes (V m c main_v1) : Buf (Elt Ideal) ((cfg0.win 1).arr.view.loc (c.tc : Thread nD τ))) := by
  refine (dats m 0 c).arrAt_eq_of_covers 1 _ (by decide +kernel) fun t hf y => ?_
  obtain ⟨f0, f1, f2, g0, g1, g2⟩ := index_facts t
  rw [after0_1]
  obtain ⟨u, b, n, rfl⟩ : ∃ (u : Fin 1) (b : Fin 16) (n : Fin 110592), y = ix3 u b n := ⟨y 0, y 1, y 2, eq_ix3 y⟩
  obtain rfl : u = 0 := Subsingleton.elim _ _
  refine (point_block m c t b n).trans ?_
  have hN : t.val < 18 := lt_of_lt_of_eq t.isLt N_0
  have hn : (n : ℕ) < 110592 := n.isLt
  have h0 : (((cfg0.win 1).blk t).view.emb (ix3 0 b n) (0 : Fin 3) : ℕ) = t.val / 3 := by
    blk_simp; rw [g0]; rfl
  have h1 : ((cfg0.win 1).blk t).view.emb (ix3 0 b n) (1 : Fin 3) = b := by
    apply Fin.ext; blk_simp; rw [g1]; omega
  have h2 : (((cfg0.win 1).blk t).view.emb (ix3 0 b n) (2 : Fin 3) : ℕ) = t.val % 3 * 110592 + n := by
    blk_simp; rw [g2]
  exact (planes_at _ _ _ _ _ (by omega) h0 h1 h2 _ (input_block m c t b n _ rfl).symm).symm

end Cert.Decode
-- ==== Proof.KernelRun.lean ====
/-
  The kernel's whole program, from its argument to its result. Before the grid the host moves the channel axis of the
  argument to the front and flattens the three spatial axes; after the grid it moves the attribute axis of the output
  to the back. The result is `decoded` of the argument, which also is what the reference computes.
-/
module

public import proofs.«01_k».proof.Proof.KernelArray
public import Idealize.ShloMosaic.Lib.Claim

@[expose] public section

set_option maxRecDepth 16384

noncomputable section

namespace Cert.Decode

open Idealize.ShloMosaic Idealize.SL.Sem Idealize.ShloMosaic.TcCoe Cert.KernelIdeal Cert.KernelIdeal.Gen

/-- The decoded boxes of the network output `x`: for batch entry `b`, row `q` and attribute `j` it is `attr j` of the
    cell `q % 110592` under the anchor `q / 110592`, whose number stands in channel `6 * (q / 110592) + j` at the
    cell's three coordinates. -/
def decoded (x : S16x18x48x48x48.Idx → EReal) (y : S16x331776x6.Idx) : EReal :=
  have h1 : (y 1 : ℕ) < 331776 := (y 1).isLt
  have h2 : (y 2 : ℕ) < 6 := (y 2).isLt
  attr (y 2) ((y 1 : ℕ) / 110592) ((y 1 : ℕ) % 110592)
    (x (ix5 (y 0) ⟨6 * ((y 1 : ℕ) / 110592) + (y 2 : ℕ), by omega⟩
      ⟨(y 1 : ℕ) % 110592 / 2304, by omega⟩ ⟨(y 1 : ℕ) % 110592 / 48 % 48, by omega⟩ ⟨(y 1 : ℕ) % 110592 % 48, by omega⟩))

variable (m : (ℓ : Loc nD τ sig) → Buf (Elt Ideal) ℓ) (ρ : Dev nD → PrngReg)

/-- The array the grid reads is the argument with its channel axis first and its spatial axes flattened. -/
theorem grid_input (c : Dev nD) : V m c main_v1
    = (shapeCast S18x16x110592 (transpose S18x16x48x48x48 [1, 0, 2, 3, 4] (m ((c.tc : Thread nD τ).loc main_arg0))
        transposes_S16x18x48x48x48_S18x16x48x48x48_1_0_2_3_4) shapeCasts_S18x16x48x48x48_S18x16x110592
      : Buf (Elt Ideal) ((c.tc : Thread nD τ).loc main_v1)) := by
  simp only [V, V0, hostOps0, List.flatten_cons, List.flatten_nil, List.append_nil]
  after_results
  rfl

/-- The result is the grid's output array with its attribute axis last. -/
theorem result_array (c : Dev nD) : Pipeline.afterTail₀ cfgs (dats m) 0 (V0 m) [hostOps1] c main_v3
    = (transpose S16x331776x6 [1, 2, 0] (planes (V m c main_v1)) transposes_S6x16x331776_S16x331776x6_1_2_0
      : Buf (Elt Ideal) ((c.tc : Thread nD τ).loc main_v3)) := by
  unfold Pipeline.afterTail₀
  simp only [hostOps1, List.flatten_cons, List.flatten_nil, List.append_nil]
  after_results
  refine congrArg (transpose S16x331776x6 [1, 2, 0] · transposes_S6x16x331776_S16x331776x6_1_2_0) ?_
  exact (Pipeline.withArrays_arr spec0 launch0.win.arr_inj c (V0 m c) (fun w => (dats m 0 c).arrAt w cfg0.N) 1).trans
    (output_array m c)

/-- The two host stretches around the grid's function compose to `decoded`. -/
theorem planes_decoded (x : S16x18x48x48x48.Idx → EReal) :
    transpose S16x331776x6 [1, 2, 0] (planes (shapeCast S18x16x110592 (transpose S18x16x48x48x48 [1, 0, 2, 3, 4] x
        transposes_S16x18x48x48x48_S18x16x48x48x48_1_0_2_3_4) shapeCasts_S18x16x48x48x48_S18x16x110592))
      transposes_S6x16x331776_S16x331776x6_1_2_0 = decoded x := by
  funext y
  idx_vars y
  pointwise [planes, decoded]

/-- Every run of the kernel's program ends with `decoded` of the argument in the result and the argument unchanged. -/
theorem kernel_run : θ_run defs (onTc (τ := τ) (main (F := Ideal))) ⟨m, fun _ => 0, ρ⟩ (fun r => ∀ c : Dev nD,
    r.2.mem ((c.tc : Thread nD τ).loc main_v3) = (decoded (m ((c.tc : Thread nD τ).loc main_arg0)) : Buf (Elt Ideal) ((c.tc : Thread nD τ).loc main_v3))
      ∧ r.2.mem ((c.tc : Thread nD τ).loc main_arg0) = m ((c.tc : Thread nD τ).loc main_arg0)) := by
  run_from run_main m ρ
  · rw [result_array, grid_input]
    exact planes_decoded _
  · exact W_main_arg0 m (dats m) c

end Cert.Decode
-- ==== Proof.ReferenceRun.lean ====
/-
  The reference program's result. Its composed term is read at an index, attribute by attribute; each attribute is the
  same scalar function `attr` of the same input number, so the whole result is `decoded` of the argument.
-/
module

public import proofs.«01_k».proof.Proof.KernelRun
public import proofs.«01_k».proof.Proof.Gen.ReferenceIdeal.Run
public import Idealize.ShloMosaic.Lib.Tactic.CleanTypes

@[expose] public section

set_option maxRecDepth 16384

noncomputable section

namespace Cert.Decode

open Idealize.ShloMosaic Idealize.SL.Sem Cert.ReferenceIdeal Cert.ReferenceIdeal.Value

/-- The reference's table of anchor lengths, read at an anchor. -/
theorem anchor_table (a : Fin 3) : Ideal.ofBits .f32 (lit0 (S3.rowMajor (ix1 a))) = anchor a := by
  fin_vals a with ha
  · have e : lit0 (S3.rowMajor (ix1 a)) = 0x40800000#32 := by
      rw [show a = 0 from Fin.ext ha]; decide
    rw [e, lit_four, ha]; rfl
  · have e : lit0 (S3.rowMajor (ix1 a)) = 0x41000000#32 := by
      rw [show a = 1 from Fin.ext ha]; decide
    rw [e, lit_eight, ha]; rfl
  · have e : lit0 (S3.rowMajor (ix1 a)) = 0x41800000#32 := by
      rw [show a = 2 from Fin.ext ha]; decide
    rw [e, lit_sixteen, ha]; rfl

/-- `decoded` at batch entry `b`, row `q` and attribute `k`, when `p` is the channel `6 * (q / 110592) + k` and `z`, `y`
    and `w` are the cell's coordinates. -/
theorem decoded_at (x : Cert.KernelIdeal.S16x18x48x48x48.Idx → EReal) (b : Fin 16) (q : Fin 331776) (j : Fin 6) (k : ℕ)
    (hk : (j : ℕ) = k) (p : Fin 18) (z y w : Fin 48) (hp : (p : ℕ) = (q : ℕ) / 110592 * 6 + k)
    (hz : (z : ℕ) = (q : ℕ) / 2304 % 48) (hy : (y : ℕ) = (q : ℕ) / 48 % 48) (hw : (w : ℕ) = (q : ℕ) % 48) :
    decoded x (ix3 b q j) = attr k ((q : ℕ) / 110592) ((q : ℕ) % 110592) (x (ix5 b p z y w)) := by
  have hq : (q : ℕ) < 331776 := q.isLt
  unfold decoded
  show attr (j : ℕ) ((q : ℕ) / 110592) ((q : ℕ) % 110592) (x (ix5 b _ _ _ _)) = _
  rw [hk]
  congr 2
  congr 1
  · apply Fin.ext; show 6 * ((q : ℕ) / 110592) + (j : ℕ) = p; omega
  · apply Fin.ext; show (q : ℕ) % 110592 / 2304 = z; omega
  · apply Fin.ext; show (q : ℕ) % 110592 / 48 % 48 = y; omega
  · apply Fin.ext; show (q : ℕ) % 110592 % 48 = w; omega

/-- The reference's centre along x of the cell that row `q` holds, from the network's number `v`, is attribute 0. -/
theorem row_x (q : Fin 331776) (a : ℕ) (v : EReal) :
    (Ideal.div 1 (1 + Ideal.exp (-v)) + FloatOps.sitofp (F := Ideal) .f32 (BitVec.ofNat 32 ((q : ℕ) % 48))) * 2
      = attr 0 a ((q : ℕ) % 110592) v := by
  rw [sitofp_word (by omega), show (q : ℕ) % 48 = (q : ℕ) % 110592 % 48 by omega]
  rfl

/-- The reference's centre along y of the cell that row `q` holds, from the network's number `v`, is attribute 1. -/
theorem row_y (q : Fin 331776) (a : ℕ) (v : EReal) :
    (Ideal.div 1 (1 + Ideal.exp (-v)) + FloatOps.sitofp (F := Ideal) .f32 (BitVec.ofNat 32 ((q : ℕ) / 48 % 48))) * 2
      = attr 1 a ((q : ℕ) % 110592) v := by
  rw [sitofp_word (by omega), show (q : ℕ) / 48 % 48 = (q : ℕ) % 110592 / 48 % 48 by omega]
  rfl

/-- The reference's centre along z of the cell that row `q` holds, from the network's number `v`, is attribute 2. -/
theorem row_z (q : Fin 331776) (a : ℕ) (v : EReal) :
    (Ideal.div 1 (1 + Ideal.exp (-v)) + FloatOps.sitofp (F := Ideal) .f32 (BitVec.ofNat 32 ((q : ℕ) / 2304 % 48))) * 2
      = attr 2 a ((q : ℕ) % 110592) v := by
  rw [sitofp_word (by omega), show (q : ℕ) / 2304 % 48 = (q : ℕ) % 110592 / 2304 by omega]
  rfl

/-- The reference's result is `decoded` of its argument. -/
theorem reference_result (m : (ℓ : Loc nD τ sig) → Buf (Elt Ideal) ℓ) (c : Dev nD) :
    res_main_v79 m c = (decoded (m ((c.tc : Thread nD τ).loc main_arg0)) : Buf (Elt Ideal) ((c.tc : Thread nD τ).loc main_v79)) := by
  funext i
  obtain ⟨b, q, j, rfl⟩ : ∃ (b : Fin 16) (q : Fin 331776) (j : Fin 6), i = ix3 b q j := ⟨i 0, i 1, i 2, eq_ix3 i⟩
  have hq : (q : ℕ) < 331776 := q.isLt
  unfold res_main_v79
  clean_types
  pointwise
  simp only [anchor_table, lit_two, mul_half_mul_two]
  fin_vals j with hj
  all_goals simp only [hj, Nat.reduceSub, Nat.reduceLT, ↓reduceDIte]
  · refine (row_x q ((q : ℕ) / 110592) _).trans (Eq.symm ?_)
    refine decoded_at _ b q j 0 hj _ _ _ _ ?_ ?_ ?_ ?_ <;> rfl
  · refine (row_y q ((q : ℕ) / 110592) _).trans (Eq.symm ?_)
    refine decoded_at _ b q j 1 hj _ _ _ _ ?_ ?_ ?_ ?_ <;> rfl
  · refine (row_z q ((q : ℕ) / 110592) _).trans (Eq.symm ?_)
    refine decoded_at _ b q j 2 hj _ _ _ _ ?_ ?_ ?_ ?_ <;> rfl
  · refine Eq.symm ?_
    refine decoded_at _ b q j 3 hj _ _ _ _ ?_ ?_ ?_ ?_ <;> rfl
  · refine Eq.symm ?_
    refine decoded_at _ b q j 4 hj _ _ _ _ ?_ ?_ ?_ ?_ <;> rfl
  · refine Eq.symm ?_
    refine decoded_at _ b q j 5 hj _ _ _ _ ?_ ?_ ?_ ?_ <;> rfl

end Cert.Decode
-- ==== Proof.lean ====
/- The certificate's claim, assembled from the modules under `Proof/`.
   The two frames of the kernel are the generated ones; the reference's frame is its generated run, which
   declares no semaphore; the value claim meets in `Cert.Decode.decoded`, the array both programs end with. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The reference terminates without a fault, leaves its argument as it was, and ends with every semaphore at
    zero. -/
theorem reference_frame :
    Cert.quiescent_ReferenceIdeal (hReferenceIdeal := Cert.ReferenceIdeal.Gen.facts) := by
  intro m g _
  refine (θ_run Cert.ReferenceIdeal.defs _ _).mono (fun r h => ?_) (Cert.ReferenceIdeal.Value.run m g)
  exact ⟨fun c => (h c).2, sem_eq_zero_of_no_sems (by decide) r.2⟩

/-- From memories that agree on the argument, the kernel and the reference, both over the extended reals, end
    with the same array: the decoded predictions of that argument. -/
theorem values_agree :
    Cert.algebraic_KernelIdeal_ReferenceIdeal (hKernelIdeal := Cert.KernelIdeal.Gen.facts)
      (hReferenceIdeal := Cert.ReferenceIdeal.Gen.facts) := by
  intro m g m' g' _ hagree
  refine ⟨fun c => Cert.Decode.decoded (m (c.tc.loc Cert.KernelIdeal.main_arg0)),
    Cert.Decode.kernel_run m g, ?_⟩
  refine (θ_run Cert.ReferenceIdeal.defs _ _).mono (fun r h c => ?_) (Cert.ReferenceIdeal.Value.run m' g')
  refine ⟨(h c).1.trans ((Cert.Decode.reference_result m' c).trans ?_), (h c).2⟩
  exact congrArg Cert.Decode.decoded (hagree c)

/-- The whole claim: the three frames, that the idealized kernel is the kernel's own text, and the equality of
    the results over the extended reals. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    reference_frame, trivial, values_agree⟩

end Cert.Proof

end
